-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_landmarks_at_most_one [hPre_landmarks_at_most_one : Cert.Pre_landmarks_at_most_one.Facts] (m : (ℓ : Loc Cert.KernelIdeal.nD Cert.KernelIdeal.τ Cert.KernelIdeal.sig) → Buf (Elt Ideal) ℓ) : Prop :=
  ∀ c : Dev Cert.KernelIdeal.nD,
    (Cert.Pre_landmarks_at_most_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_landmarks_at_most_one [hPre_landmarks_at_most_one : Cert.Pre_landmarks_at_most_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_landmarks_at_most_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_landmarks_at_most_one [hKernelIdeal : Cert.KernelIdeal.Facts] [hPre_landmarks_at_most_one : Cert.Pre_landmarks_at_most_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_landmarks_at_most_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_landmarks_at_most_one [hReferenceIdeal : Cert.ReferenceIdeal.Facts] [hPre_landmarks_at_most_one : Cert.Pre_landmarks_at_most_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_landmarks_at_most_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_landmarks_at_most_one [hKernelIdeal : Cert.KernelIdeal.Facts] [hReferenceIdeal : Cert.ReferenceIdeal.Facts] [hPre_landmarks_at_most_one : Cert.Pre_landmarks_at_most_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_landmarks_at_most_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_landmarks_at_most_one : Cert.Pre_landmarks_at_most_one.Facts),
    quiescent_Kernel (hKernel := hKernel)
    ∧ quiescent_KernelIdeal (hKernelIdeal := hKernelIdeal)
    ∧ quiescent_KernelIdeal_pre_landmarks_at_most_one (hKernelIdeal := hKernelIdeal) (hPre_landmarks_at_most_one := hPre_landmarks_at_most_one)
    ∧ quiescent_ReferenceIdeal (hReferenceIdeal := hReferenceIdeal)
    ∧ quiescent_ReferenceIdeal_pre_landmarks_at_most_one (hReferenceIdeal := hReferenceIdeal) (hPre_landmarks_at_most_one := hPre_landmarks_at_most_one)
    ∧ preserves_Kernel_KernelIdeal
    ∧ algebraic_KernelIdeal_ReferenceIdeal_pre_landmarks_at_most_one (hKernelIdeal := hKernelIdeal) (hReferenceIdeal := hReferenceIdeal) (hPre_landmarks_at_most_one := hPre_landmarks_at_most_one)
-- ==== Pre_landmarks_at_most_one.lean ====
abbrev S16x2048x32x32 : Shape := ⟨4, ![16, 2048, 32, 32]⟩
abbrev S16x68x2 : Shape := ⟨3, ![16, 68, 2]⟩
abbrev S_ : Shape := ⟨0, ![]⟩

class Facts : Prop where
  bcast_S_S16x68x2 : S_.BroadcastsInDim S16x68x2 (![] : Fin 0 → Fin S16x68x2.rank)

variable [Facts]

def fn {F : FTy → Type} [FloatOps F] (main_arg0 : FVec F S16x2048x32x32 .f32) (main_arg1 : FVec F S16x68x2 .f32) : IVec S16x68x2 1 :=
  let main_cst : FVec F S_ .f32 := constant S_ .f32 0x3F800000#32
  let main_v0 : FVec F S16x68x2 .f32 := broadcastInDim S16x68x2 ![] bcast_S_S16x68x2 main_cst
  let main_v1 : IVec S16x68x2 1 := cmpf .ole main_arg1 main_v0
  main_v1
-- ==== Kernel.lean ====
abbrev S16x2048x32x32 : Shape := ⟨4, ![16, 2048, 32, 32]⟩
abbrev S16x68x2 : Shape := ⟨3, ![16, 68, 2]⟩
abbrev S16x2048x2x2 : Shape := ⟨4, ![16, 2048, 2, 2]⟩
abbrev S16x2048x4 : Shape := ⟨3, ![16, 2048, 4]⟩
abbrev S16x4x2048 : Shape := ⟨3, ![16, 4, 2048]⟩
abbrev S16x68x2048 : Shape := ⟨3, ![16, 68, 2048]⟩
abbrev S1x4x2048 : Shape := ⟨3, ![1, 4, 2048]⟩
abbrev S1x68x2 : Shape := ⟨3, ![1, 68, 2]⟩
abbrev S1x68x2048 : Shape := ⟨3, ![1, 68, 2048]⟩
abbrev S4x2048 : Shape := ⟨2, ![4, 2048]⟩
abbrev S68x2 : Shape := ⟨2, ![68, 2]⟩
abbrev S68x1 : Shape := ⟨2, ![68, 1]⟩
abbrev S68x4 : Shape := ⟨2, ![68, 4]⟩
abbrev S68x2048 : Shape := ⟨2, ![68, 2048]⟩

abbrev nBuf : Space → Nat
  | .hbm => 6
  | .vmem => 6
  | .smem => 0
  | _ => 0

abbrev bufTy : (tb : Table) → Fin (tcTables nBuf tb) → BufTy
  | .hbm, ⟨0, _⟩ => ⟨S16x2048x32x32, .f32⟩
  | .hbm, ⟨1, _⟩ => ⟨S16x68x2, .f32⟩
  | .hbm, ⟨2, _⟩ => ⟨S16x2048x2x2, .f32⟩
  | .hbm, ⟨3, _⟩ => ⟨S16x2048x4, .f32⟩
  | .hbm, ⟨4, _⟩ => ⟨S16x4x2048, .f32⟩
  | .hbm, ⟨5, _⟩ => ⟨S16x68x2048, .f32⟩
  | .local _ .vmem, ⟨0, _⟩ => ⟨S1x4x2048, .f32⟩
  | .local _ .vmem, ⟨1, _⟩ => ⟨S1x4x2048, .f32⟩
  | .local _ .vmem, ⟨2, _⟩ => ⟨S1x68x2, .f32⟩
  | .local _ .vmem, ⟨3, _⟩ => ⟨S1x68x2, .f32⟩
  | .local _ .vmem, ⟨4, _⟩ => ⟨S1x68x2048, .f32⟩
  | .local _ .vmem, ⟨5, _⟩ => ⟨S1x68x2048, .f32⟩
  | _, _ => ⟨S16x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x68x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x68x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x2048x32x32 : Shape := ⟨4, ![16, 2048, 32, 32]⟩
abbrev S16x68x2 : Shape := ⟨3, ![16, 68, 2]⟩
abbrev S16x68x1 : Shape := ⟨3, ![16, 68, 1]⟩
abbrev S16x68 : Shape := ⟨2, ![16, 68]⟩
abbrev S_ : Shape := ⟨0, ![]⟩
abbrev S16x32x32x2048 : Shape := ⟨4, ![16, 32, 32, 2048]⟩
abbrev S16 : Shape := ⟨1, ![16]⟩
abbrev S16x1 : Shape := ⟨2, ![16, 1]⟩
abbrev S16x68x3 : Shape := ⟨3, ![16, 68, 3]⟩
abbrev S16x68x2048 : Shape := ⟨3, ![16, 68, 2048]⟩

abbrev nBuf : Space → Nat
  | .hbm => 240
  | .vmem => 0
  | .smem => 0
  | _ => 0

abbrev hbmTy0_0 (i : Nat) : BufTy := match i % 128 with
  | 0 => ⟨S16x2048x32x32, .f32⟩
  | 1 => ⟨S16x68x2, .f32⟩
  | 2 => ⟨S16x68x1, .f32⟩
  | 3 => ⟨S16x68, .f32⟩
  | 4 => ⟨S_, .f32⟩
  | 5 => ⟨S16x68, .f32⟩
  | 6 => ⟨S16x68, .f32⟩
  | 7 => ⟨S_, .f32⟩
  | 8 => ⟨S16x68, .f32⟩
  | 9 => ⟨S16x68, .f32⟩
  | 10 => ⟨S_, .f32⟩
  | 11 => ⟨S16x68, .f32⟩
  | 12 => ⟨S16x68, .f32⟩
  | 13 => ⟨S16x68x1, .f32⟩
  | 14 => ⟨S16x68, .f32⟩
  | 15 => ⟨S_, .f32⟩
  | 16 => ⟨S16x68, .f32⟩
  | 17 => ⟨S16x68, .f32⟩
  | 18 => ⟨S_, .f32⟩
  | 19 => ⟨S16x68, .f32⟩
  | 20 => ⟨S16x68, .f32⟩
  | 21 => ⟨S_, .f32⟩
  | 22 => ⟨S16x68, .f32⟩
  | 23 => ⟨S16x68, .f32⟩
  | 24 => ⟨S_, .f32⟩
  | 25 => ⟨S16x68, .f32⟩
  | 26 => ⟨S16x68, .f32⟩
  | 27 => ⟨S_, .f32⟩
  | 28 => ⟨S16x68, .f32⟩
  | 29 => ⟨S16x68, .f32⟩
  | 30 => ⟨S_, .f32⟩
  | 31 => ⟨S16x68, .f32⟩
  | 32 => ⟨S16x68, .f32⟩
  | 33 => ⟨S_, .f32⟩
  | 34 => ⟨S16x68, .f32⟩
  | 35 => ⟨S16x68, .f32⟩
  | 36 => ⟨S_, .f32⟩
  | 37 => ⟨S16x68, .f32⟩
  | 38 => ⟨S16x68, .f32⟩
  | 39 => ⟨S_, .f32⟩
  | 40 => ⟨S16x68, .f32⟩
  | 41 => ⟨S16x68, .f32⟩
  | 42 => ⟨S_, .f32⟩
  | 43 => ⟨S_, .i32⟩
  | 44 => ⟨S_, .f32⟩
  | 45 => ⟨S16x68, .f32⟩
  | 46 => ⟨S16x68, .f32⟩
  | 47 => ⟨S_, .f32⟩
  | 48 => ⟨S16x68, .f32⟩
  | 49 => ⟨S16x68, .f32⟩
  | 50 => ⟨S_, .f32⟩
  | 51 => ⟨S_, .i32⟩
  | 52 => ⟨S_, .f32⟩
  | 53 => ⟨S16x68, .f32⟩
  | 54 => ⟨S16x68, .f32⟩
  | 55 => ⟨S_, .f32⟩
  | 56 => ⟨S16x68, .f32⟩
  | 57 => ⟨S16x68, .f32⟩
  | 58 => ⟨S16x68, .f32⟩
  | 59 => ⟨S16x68, .f32⟩
  | 60 => ⟨S_, .f32⟩
  | 61 => ⟨S16x68, .f32⟩
  | 62 => ⟨S16x68, .f32⟩
  | 63 => ⟨S_, .f32⟩
  | 64 => ⟨S16x68, .f32⟩
  | 65 => ⟨S16x68, .f32⟩
  | 66 => ⟨S16x68, .f32⟩
  | 67 => ⟨S_, .f32⟩
  | 68 => ⟨S16x68, .f32⟩
  | 69 => ⟨S16x68, .f32⟩
  | 70 => ⟨S16x68, .f32⟩
  | 71 => ⟨S_, .f32⟩
  | 72 => ⟨S16x68, .f32⟩
  | 73 => ⟨S16x68, .f32⟩
  | 74 => ⟨S_, .i32⟩
  | 75 => ⟨S_, .i32⟩
  | 76 => ⟨S_, .f32⟩
  | 77 => ⟨S16x68, .f32⟩
  | 78 => ⟨S16x68, .f32⟩
  | 79 => ⟨S_, .f32⟩
  | 80 => ⟨S16x68, .f32⟩
  | 81 => ⟨S16x68, .f32⟩
  | 82 => ⟨S16x68, .i32⟩
  | 83 => ⟨S_, .i32⟩
  | 84 => ⟨S_, .i32⟩
  | 85 => ⟨S_, .f32⟩
  | 86 => ⟨S16x68, .f32⟩
  | 87 => ⟨S16x68, .f32⟩
  | 88 => ⟨S_, .f32⟩
  | 89 => ⟨S16x68, .f32⟩
  | 90 => ⟨S16x68, .f32⟩
  | 91 => ⟨S16x68, .i32⟩
  | 92 => ⟨S_, .i32⟩
  | 93 => ⟨S_, .i32⟩
  | 94 => ⟨S_, .f32⟩
  | 95 => ⟨S16x68, .f32⟩
  | 96 => ⟨S16x68, .f32⟩
  | 97 => ⟨S_, .f32⟩
  | 98 => ⟨S16x68, .f32⟩
  | 99 => ⟨S16x68, .f32⟩
  | 100 => ⟨S16x68, .i32⟩
  | 101 => ⟨S_, .i32⟩
  | 102 => ⟨S_, .i32⟩
  | 103 => ⟨S_, .f32⟩
  | 104 => ⟨S16x68, .f32⟩
  | 105 => ⟨S16x68, .f32⟩
  | 106 => ⟨S_, .f32⟩
  | 107 => ⟨S16x68, .f32⟩
  | 108 => ⟨S16x68, .f32⟩
  | 109 => ⟨S16x68, .i32⟩
  | 110 => ⟨S16x32x32x2048, .f32⟩
  | 111 => ⟨S16, .i32⟩
  | 112 => ⟨S16x1, .i32⟩
  | 113 => ⟨S_, .i32⟩
  | 114 => ⟨S16x1, .i32⟩
  | 115 => ⟨S16x1, .i1⟩
  | 116 => ⟨S_, .i32⟩
  | 117 => ⟨S16x1, .i32⟩
  | 118 => ⟨S16x1, .i32⟩
  | 119 => ⟨S16x1, .i32⟩
  | 120 => ⟨S_, .i32⟩
  | 121 => ⟨S16x68, .i32⟩
  | 122 => ⟨S16x68, .i1⟩
  | 123 => ⟨S_, .i32⟩
  | 124 => ⟨S16x68, .i32⟩
  | 125 => ⟨S16x68, .i32⟩
  | 126 => ⟨S16x68, .i32⟩
  | 127 => ⟨S_, .i32⟩
  | _ => ⟨S16x2048x32x32, .f32⟩

abbrev hbmTy0_1 (i : Nat) : BufTy := match i % 128 with
  | 0 => ⟨S16x68, .i32⟩
  | 1 => ⟨S16x68, .i1⟩
  | 2 => ⟨S_, .i32⟩
  | 3 => ⟨S16x68, .i32⟩
  | 4 => ⟨S16x68, .i32⟩
  | 5 => ⟨S16x68, .i32⟩
  | 6 => ⟨S16x68, .i32⟩
  | 7 => ⟨S16x68x1, .i32⟩
  | 8 => ⟨S16x68x1, .i32⟩
  | 9 => ⟨S16x68x1, .i32⟩
  | 10 => ⟨S16x68x3, .i32⟩
  | 11 => ⟨S16x68x2048, .f32⟩
  | 12 => ⟨S_, .i32⟩
  | 13 => ⟨S16x1, .i32⟩
  | 14 => ⟨S16x1, .i1⟩
  | 15 => ⟨S_, .i32⟩
  | 16 => ⟨S16x1, .i32⟩
  | 17 => ⟨S16x1, .i32⟩
  | 18 => ⟨S16x1, .i32⟩
  | 19 => ⟨S_, .i32⟩
  | 20 => ⟨S16x68, .i32⟩
  | 21 => ⟨S16x68, .i1⟩
  | 22 => ⟨S_, .i32⟩
  | 23 => ⟨S16x68, .i32⟩
  | 24 => ⟨S16x68, .i32⟩
  | 25 => ⟨S16x68, .i32⟩
  | 26 => ⟨S_, .i32⟩
  | 27 => ⟨S16x68, .i32⟩
  | 28 => ⟨S16x68, .i1⟩
  | 29 => ⟨S_, .i32⟩
  | 30 => ⟨S16x68, .i32⟩
  | 31 => ⟨S16x68, .i32⟩
  | 32 => ⟨S16x68, .i32⟩
  | 33 => ⟨S16x68, .i32⟩
  | 34 => ⟨S16x68x1, .i32⟩
  | 35 => ⟨S16x68x1, .i32⟩
  | 36 => ⟨S16x68x1, .i32⟩
  | 37 => ⟨S16x68x3, .i32⟩
  | 38 => ⟨S16x68x2048, .f32⟩
  | 39 => ⟨S_, .i32⟩
  | 40 => ⟨S16x1, .i32⟩
  | 41 => ⟨S16x1, .i1⟩
  | 42 => ⟨S_, .i32⟩
  | 43 => ⟨S16x1, .i32⟩
  | 44 => ⟨S16x1, .i32⟩
  | 45 => ⟨S16x1, .i32⟩
  | 46 => ⟨S_, .i32⟩
  | 47 => ⟨S16x68, .i32⟩
  | 48 => ⟨S16x68, .i1⟩
  | 49 => ⟨S_, .i32⟩
  | 50 => ⟨S16x68, .i32⟩
  | 51 => ⟨S16x68, .i32⟩
  | 52 => ⟨S16x68, .i32⟩
  | 53 => ⟨S_, .i32⟩
  | 54 => ⟨S16x68, .i32⟩
  | 55 => ⟨S16x68, .i1⟩
  | 56 => ⟨S_, .i32⟩
  | 57 => ⟨S16x68, .i32⟩
  | 58 => ⟨S16x68, .i32⟩
  | 59 => ⟨S16x68, .i32⟩
  | 60 => ⟨S16x68, .i32⟩
  | 61 => ⟨S16x68x1, .i32⟩
  | 62 => ⟨S16x68x1, .i32⟩
  | 63 => ⟨S16x68x1, .i32⟩
  | 64 => ⟨S16x68x3, .i32⟩
  | 65 => ⟨S16x68x2048, .f32⟩
  | 66 => ⟨S_, .i32⟩
  | 67 => ⟨S16x1, .i32⟩
  | 68 => ⟨S16x1, .i1⟩
  | 69 => ⟨S_, .i32⟩
  | 70 => ⟨S16x1, .i32⟩
  | 71 => ⟨S16x1, .i32⟩
  | 72 => ⟨S16x1, .i32⟩
  | 73 => ⟨S_, .i32⟩
  | 74 => ⟨S16x68, .i32⟩
  | 75 => ⟨S16x68, .i1⟩
  | 76 => ⟨S_, .i32⟩
  | 77 => ⟨S16x68, .i32⟩
  | 78 => ⟨S16x68, .i32⟩
  | 79 => ⟨S16x68, .i32⟩
  | 80 => ⟨S_, .i32⟩
  | 81 => ⟨S16x68, .i32⟩
  | 82 => ⟨S16x68, .i1⟩
  | 83 => ⟨S_, .i32⟩
  | 84 => ⟨S16x68, .i32⟩
  | 85 => ⟨S16x68, .i32⟩
  | 86 => ⟨S16x68, .i32⟩
  | 87 => ⟨S16x68, .i32⟩
  | 88 => ⟨S16x68x1, .i32⟩
  | 89 => ⟨S16x68x1, .i32⟩
  | 90 => ⟨S16x68x1, .i32⟩
  | 91 => ⟨S16x68x3, .i32⟩
  | 92 => ⟨S16x68x2048, .f32⟩
  | 93 => ⟨S16x68, .f32⟩
  | 94 => ⟨S16x68x1, .f32⟩
  | 95 => ⟨S16x68x2048, .f32⟩
  | 96 => ⟨S16x68x2048, .f32⟩
  | 97 => ⟨S16x68, .f32⟩
  | 98 => ⟨S16x68x1, .f32⟩
  | 99 => ⟨S16x68x2048, .f32⟩
  | 100 => ⟨S16x68x2048, .f32⟩
  | 101 => ⟨S16x68x2048, .f32⟩
  | 102 => ⟨S16x68, .f32⟩
  | 103 => ⟨S16x68x1, .f32⟩
  | 104 => ⟨S16x68x2048, .f32⟩
  | 105 => ⟨S16x68x2048, .f32⟩
  | 106 => ⟨S16x68x2048, .f32⟩
  | 107 => ⟨S16x68, .f32⟩
  | 108 => ⟨S16x68x1, .f32⟩
  | 109 => ⟨S16x68x2048, .f32⟩
  | 110 => ⟨S16x68x2048, .f32⟩
  | 111 => ⟨S16x68x2048, .f32⟩
  | _ => ⟨S16x2048x32x32, .f32⟩

abbrev hbmTy (i : Nat) : BufTy := match i / 128 with
  | 0 => hbmTy0_0 i
  | 1 => hbmTy0_1 i
  | _ => ⟨S16x2048x32x32, .f32⟩

abbrev bufTy : (tb : Table) → Fin (tcTables nBuf tb) → BufTy
  | .hbm, ⟨i, _⟩ => hbmTy i
  | _, _ => ⟨S16x2048x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_v27 : Ref sig .tc := ⟨.hbm, 41, rfl⟩
abbrev main_cst_11 : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v28 : Ref sig .tc := ⟨.hbm, 49, rfl⟩
abbrev main_cst_12 : Ref sig .tc := ⟨.hbm, 50, rfl⟩
abbrev main_c_13 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_14 : Ref sig .tc := ⟨.hbm, 60, rfl⟩
abbrev main_v32 : Ref sig .tc := ⟨.hbm, 61, rfl⟩
abbrev main_v33 : Ref sig .tc := ⟨.hbm, 62, rfl⟩
abbrev main_cst_15 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_16 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_17 : Ref sig .tc := ⟨.hbm, 71, rfl⟩
abbrev main_v40 : Ref sig .tc := ⟨.hbm, 72, rfl⟩
abbrev main_v41 : Ref sig .tc := ⟨.hbm, 73, rfl⟩
abbrev main_c_18 : Ref sig .tc := ⟨.hbm, 74, rfl⟩
abbrev main_c_19 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v42 : Ref sig .tc := ⟨.hbm, 81, rfl⟩
abbrev main_v43 : Ref sig .tc := ⟨.hbm, 82, rfl⟩
abbrev main_c_20 : Ref sig .tc := ⟨.hbm, 83, rfl⟩
abbrev main_c_21 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v44 : Ref sig .tc := ⟨.hbm, 90, rfl⟩
abbrev main_v45 : Ref sig .tc := ⟨.hbm, 91, rfl⟩
abbrev main_c_22 : Ref sig .tc := ⟨.hbm, 92, rfl⟩
abbrev main_c_23 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_v46 : Ref sig .tc := ⟨.hbm, 99, rfl⟩
abbrev main_v47 : Ref sig .tc := ⟨.hbm, 100, rfl⟩
abbrev main_c_24 : Ref sig .tc := ⟨.hbm, 101, rfl⟩
abbrev main_c_25 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_c_26 : Ref sig .tc := ⟨.hbm, 113, rfl⟩
abbrev main_v53 : Ref sig .tc := ⟨.hbm, 114, rfl⟩
abbrev main_v54 : Ref sig .tc := ⟨.hbm, 115, rfl⟩
abbrev main_c_27 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_c_28 : Ref sig .tc := ⟨.hbm, 120, rfl⟩
abbrev main_v58 : Ref sig .tc := ⟨.hbm, 121, rfl⟩
abbrev main_v59 : Ref sig .tc := ⟨.hbm, 122, rfl⟩
abbrev main_c_29 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_c_30 : Ref sig .tc := ⟨.hbm, 127, rfl⟩
abbrev main_v63 : Ref sig .tc := ⟨.hbm, 128, rfl⟩
abbrev main_v64 : Ref sig .tc := ⟨.hbm, 129, rfl⟩
abbrev main_c_31 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_c_32 : Ref sig .tc := ⟨.hbm, 140, rfl⟩
abbrev main_v74 : Ref sig .tc := ⟨.hbm, 141, rfl⟩
abbrev main_v75 : Ref sig .tc := ⟨.hbm, 142, rfl⟩
abbrev main_c_33 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_c_34 : Ref sig .tc := ⟨.hbm, 147, rfl⟩
abbrev main_v79 : Ref sig .tc := ⟨.hbm, 148, rfl⟩
abbrev main_v80 : Ref sig .tc := ⟨.hbm, 149, rfl⟩
abbrev main_c_35 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_c_36 : Ref sig .tc := ⟨.hbm, 154, rfl⟩
abbrev main_v84 : Ref sig .tc := ⟨.hbm, 155, rfl⟩
abbrev main_v85 : Ref sig .tc := ⟨.hbm, 156, rfl⟩
abbrev main_c_37 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_c_38 : Ref sig .tc := ⟨.hbm, 167, rfl⟩
abbrev main_v95 : Ref sig .tc := ⟨.hbm, 168, rfl⟩
abbrev main_v96 : Ref sig .tc := ⟨.hbm, 169, rfl⟩
abbrev main_c_39 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_c_40 : Ref sig .tc := ⟨.hbm, 174, rfl⟩
abbrev main_v100 : Ref sig .tc := ⟨.hbm, 175, rfl⟩
abbrev main_v101 : Ref sig .tc := ⟨.hbm, 176, rfl⟩
abbrev main_c_41 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_c_42 : Ref sig .tc := ⟨.hbm, 181, rfl⟩
abbrev main_v105 : Ref sig .tc := ⟨.hbm, 182, rfl⟩
abbrev main_v106 : Ref sig .tc := ⟨.hbm, 183, rfl⟩
abbrev main_c_43 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_c_44 : Ref sig .tc := ⟨.hbm, 194, rfl⟩
abbrev main_v116 : Ref sig .tc := ⟨.hbm, 195, rfl⟩
abbrev main_v117 : Ref sig .tc := ⟨.hbm, 196, rfl⟩
abbrev main_c_45 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_c_46 : Ref sig .tc := ⟨.hbm, 201, rfl⟩
abbrev main_v121 : Ref sig .tc := ⟨.hbm, 202, rfl⟩
abbrev main_v122 : Ref sig .tc := ⟨.hbm, 203, rfl⟩
abbrev main_c_47 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_c_48 : Ref sig .tc := ⟨.hbm, 208, rfl⟩
abbrev main_v126 : Ref sig .tc := ⟨.hbm, 209, rfl⟩
abbrev main_v127 : Ref sig .tc := ⟨.hbm, 210, rfl⟩
abbrev main_c_49 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩

abbrev nD : Nat := 1
abbrev τ : Topo := Topo.v7x

variable {F : FTy → Type} [FloatOps F]
-- ==== Proof.Coord.lean ====
/-
  The mathematics of one landmark coordinate and of the bilinear blend, over the extended reals and apart from any program.

  A coordinate `x` is carried to a pixel position by `pixel`, which over the reals is the identity. The kernel clips that
  position to `[0, 1]` and always blends pixels 0 and 1; the reference clips it to `[0, 31]`, and blends the pixels on both
  sides of it. For `x ≤ 1` the two clipped positions are one real number `t` in `[0, 1]` (`position`), and the reference's
  two pixels and two weights are those of `Axis`: either pixels 0 and 1 with the kernel's weights, or, at `t = 1`, pixels 1
  and 2 with weights 1 and 0. `blend_eq` says the four-corner blend is the same either way.
-/
module

public import Idealize.ShloMosaic.PureOps
public import Idealize.ShloMosaic.Lib.IdealHost

@[expose] public section

noncomputable section

namespace Cert.Proof.Coord

open Idealize.ShloMosaic

/-! ## The constants -/

/-- The f32 pattern `0x00000000` is zero. -/
theorem ofBits_zero : Ideal.ofBits .f32 0x00000000#32 = 0 := by simp [Ideal.ofBits, Ideal.ieee]

/-- The f32 pattern `0x40000000` is two. -/
theorem ofBits_two : Ideal.ofBits .f32 0x40000000#32 = ((2 : ℝ) : EReal) := by
  simp [Ideal.ofBits, Ideal.ieee, -EReal.coe_mul]; norm_num

/-- The f32 pattern `0x3F000000` is one half. -/
theorem ofBits_half : Ideal.ofBits .f32 0x3F000000#32 = ((1 / 2 : ℝ) : EReal) := by
  simp [Ideal.ofBits, Ideal.ieee, -EReal.coe_mul]; norm_num

/-- The f32 pattern `0x41F80000` is thirty-one. -/
theorem ofBits_thirtyOne : Ideal.ofBits .f32 0x41F80000#32 = ((31 : ℝ) : EReal) := by
  simp [Ideal.ofBits, Ideal.ieee, -EReal.coe_mul]; norm_num

/-! ## The pixel position of a coordinate -/

/-- The pixel position of a coordinate: normalised to `[-1, 1]` by `2x/31 - 1`, and back by `(g + 1) · ½ · 31`. -/
def pixel (x : EReal) : EReal :=
  (Ideal.div (((2 : ℝ) : EReal) * x) ((31 : ℝ) : EReal) - 1 + 1) * ((1 / 2 : ℝ) : EReal) * ((31 : ℝ) : EReal)

/-- At a real coordinate the position is that coordinate. -/
theorem pixel_coe (r : ℝ) : pixel (r : EReal) = (r : EReal) := by
  have h31 : ((31 : ℝ) : EReal) ≠ 0 := by norm_num
  unfold pixel Ideal.div
  rw [if_neg h31, ← EReal.coe_inv, ← EReal.coe_one]
  simp only [← EReal.coe_mul, ← EReal.coe_sub, ← EReal.coe_add]
  congr 1
  ring

/-- At `-∞` the position is `-∞`. -/
theorem pixel_bot : pixel ⊥ = ⊥ := by
  have h31 : ((31 : ℝ) : EReal) ≠ 0 := by norm_num
  unfold pixel Ideal.div
  rw [if_neg h31, ← EReal.coe_inv, EReal.coe_mul_bot_of_pos (by norm_num), EReal.bot_mul_coe_of_pos (by norm_num),
    sub_eq_add_neg, EReal.bot_add, EReal.bot_add, EReal.bot_mul_coe_of_pos (by norm_num),
    EReal.bot_mul_coe_of_pos (by norm_num)]

/-- For a coordinate at most 1, clipping the position to `[0, 1]` and clipping it to `[0, 31]` give one and the same real
    number of `[0, 1]`. -/
theorem position (x : EReal) (hx : x ≤ 1) : ∃ t : ℝ, 0 ≤ t ∧ t ≤ 1
    ∧ min 1 (max 0 (pixel x)) = (t : EReal) ∧ min ((31 : ℝ) : EReal) (max 0 (pixel x)) = (t : EReal) := by
  induction x with
  | bot => exact ⟨0, le_refl _, zero_le_one, by rw [pixel_bot]; simp, by rw [pixel_bot]; simp⟩
  | top => exact absurd (top_le_iff.1 hx) (by rw [← EReal.coe_one]; exact EReal.coe_ne_top 1)
  | coe r =>
    have hr : r ≤ 1 := by exact_mod_cast hx
    have hm : max 0 r ≤ 1 := max_le zero_le_one hr
    have e : max 0 (pixel (r : EReal)) = ((max 0 r : ℝ) : EReal) := by
      rw [pixel_coe, ← EReal.coe_zero]; exact (EReal.coe_strictMono.monotone.map_max).symm
    refine ⟨max 0 r, le_max_left _ _, hm, ?_, ?_⟩
    · rw [e]; exact min_eq_right (by exact_mod_cast hm)
    · rw [e]; exact min_eq_right (by exact_mod_cast hm.trans (by norm_num))

/-! ## The reference's pixels on both sides of a position -/

/-- The pixel index of a whole number `v`: clipped to `[0, 31]` and converted to a word, with a negative word wrapped
    round by 32 as an array index is. -/
def index (v : EReal) : BitVec 32 :=
  let i := Ideal.fptosi 32 (min ((31 : ℝ) : EReal) (max 0 v))
  Scalar.select (IntOp.cmpi .slt i 0#32) (IntOp.addi i 32#32) i

/-- The index of a real whole number of `[0, 31]` is that number. -/
theorem index_nat (n : ℕ) (hn : n ≤ 2) : index ((n : ℝ) : EReal) = BitVec.ofNat 32 n := by
  have e : min ((31 : ℝ) : EReal) (max 0 ((n : ℝ) : EReal)) = ((n : ℝ) : EReal) := by
    have h31 : (n : ℝ) ≤ 31 := by exact_mod_cast hn.trans (by norm_num)
    rw [max_eq_right (EReal.coe_nonneg.2 (Nat.cast_nonneg n)), min_eq_right (EReal.coe_le_coe_iff.2 h31)]
  unfold index
  rw [e]
  have f : Ideal.fptosi 32 ((n : ℝ) : EReal) = BitVec.ofNat 32 n := by
    show BitVec.ofInt 32 (max _ (min _ (if 0 ≤ (n : ℝ) then ⌊(n : ℝ)⌋ else ⌈(n : ℝ)⌉))) = _
    rw [if_pos (Nat.cast_nonneg n), Int.floor_natCast, min_eq_right (by norm_num; omega), max_eq_right (by norm_num)]
    exact BitVec.ofInt_natCast 32 n
  rw [f]
  interval_cases n <;> decide

/-- How one axis is blended at position `t`: the pixels `i0`, `i1` and their weights `w0`, `w1`. -/
inductive Axis (t : EReal) (w0 w1 : EReal) (i0 i1 : BitVec 32) : Prop
  /-- Pixels 0 and 1, weighted `1 - t` and `t`. -/
  | inside (h0 : i0 = 0#32) (h1 : i1 = 1#32) (e0 : w0 = 1 - t) (e1 : w1 = t)
  /-- At position 1: pixel 1 with weight 1, and pixel 2 with weight 0. -/
  | edge (ht : t = 1) (h0 : i0 = 1#32) (h1 : i1 = 2#32) (e0 : w0 = 1) (e1 : w1 = 0)

/-- The reference's axis at a position in `[0, 1]`: the floor and the floor plus one as pixels, the fractional part and its
    complement as weights. -/
theorem axis (t : ℝ) (h0 : 0 ≤ t) (h1 : t ≤ 1) :
    Axis (t : EReal) (1 - ((t : EReal) - Ideal.liftRound Int.floor (t : EReal)))
      ((t : EReal) - Ideal.liftRound Int.floor (t : EReal))
      (index (Ideal.liftRound Int.floor (t : EReal))) (index (Ideal.liftRound Int.floor (t : EReal) + 1)) := by
  show Axis (t : EReal) (1 - ((t : EReal) - ((⌊t⌋ : ℝ) : EReal))) ((t : EReal) - ((⌊t⌋ : ℝ) : EReal))
      (index ((⌊t⌋ : ℝ) : EReal)) (index (((⌊t⌋ : ℝ) : EReal) + 1))
  rcases lt_or_eq_of_le h1 with h | h
  · have hf : ⌊t⌋ = 0 := Int.floor_eq_zero_iff.2 ⟨h0, h⟩
    have i0 := index_nat 0 (by omega)
    have i1 := index_nat 1 (by omega)
    rw [hf]
    refine .inside ?_ ?_ ?_ ?_
    · simpa using i0
    · simpa using i1
    · simp
    · simp
  · subst h
    have i1 := index_nat 1 (by omega)
    have i2 := index_nat 2 (by omega)
    have e2 : (((1 : ℝ) : EReal) + 1) = ((2 : ℝ) : EReal) := by rw [← EReal.coe_one, ← EReal.coe_add]; norm_num
    have e0 : (((1 : ℝ) : EReal) - ((1 : ℝ) : EReal)) = 0 := by rw [← EReal.coe_sub]; simp
    have hf : ((⌊(1 : ℝ)⌋ : ℤ) : ℝ) = 1 := by simp
    rw [hf, e2, e0]
    refine .edge ?_ ?_ ?_ ?_ rfl
    · simp
    · simpa using i1
    · simpa using i2
    · simp

/-! ## The blend -/

/-- The bilinear blend of four corners `g`, with a weight for each side of each axis. -/
def blend (wy0 wy1 wx0 wx1 g00 g01 g10 g11 : EReal) : EReal :=
  wy0 * wx0 * g00 + wy0 * wx1 * g01 + wy1 * wx0 * g10 + wy1 * wx1 * g11

/-- Blending the corners the reference picks on the two axes gives what blending the corners of the pixels 0 and 1 gives. -/
theorem blend_eq (g : BitVec 32 → BitVec 32 → EReal) (ty tx wy0 wy1 wx0 wx1 : EReal) (y0 y1 x0 x1 : BitVec 32)
    (hy : Axis ty wy0 wy1 y0 y1) (hx : Axis tx wx0 wx1 x0 x1) :
    blend wy0 wy1 wx0 wx1 (g y0 x0) (g y0 x1) (g y1 x0) (g y1 x1)
      = blend (1 - ty) ty (1 - tx) tx (g 0#32 0#32) (g 0#32 1#32) (g 1#32 0#32) (g 1#32 1#32) := by
  have z : (1 : EReal) - 1 = 0 := by rw [← EReal.coe_one, ← EReal.coe_sub]; simp
  unfold blend
  rcases hy with ⟨rfl, rfl, rfl, rfl⟩ | ⟨rfl, rfl, rfl, rfl, rfl⟩ <;>
    rcases hx with ⟨rfl, rfl, rfl, rfl⟩ | ⟨rfl, rfl, rfl, rfl, rfl⟩ <;>
    simp only [z, zero_mul, mul_zero, one_mul, mul_one, add_zero, zero_add]

end Cert.Proof.Coord

end
-- ==== Proof.Block.lean ====
/-
  What one grid point computes: the block the kernel stores, read at an entry, from its two input blocks — the four corner
  pixels `x0` (corner by channel) and the landmarks `x1` (landmark by coordinate) of one image.
-/
module

public import proofs.«01_k».proof.Proof.Coord
public import proofs.«01_k».proof.Proof.Gen.KernelIdeal.Frame
public import Idealize.ShloMosaic.Lib.Pipeline.Value
public import Idealize.ShloMosaic.Lib.ValueIdx
public import Idealize.ShloMosaic.Lib.ValueLayout
public import Idealize.ShloMosaic.Lib.MatmulPlain

@[expose] public section

noncomputable section

namespace Cert.Proof.Block

open Idealize.ShloMosaic Idealize.ShloMosaic.ValueIdx Cert.KernelIdeal Cert.KernelIdeal.Gen Cert.Proof.Coord

/-- The kernel's clipped pixel position of a coordinate. -/
def clip (x : EReal) : EReal := min 1 (max 0 (pixel x))

/-- Offsets that are all zero, as the whole-buffer loads and the store write them. -/
theorem zeros : (![0, 0, 0] : Fin 3 → Nat) = fun _ => 0 := funext fun a => by fin_cases a <;> rfl

/-- The kernel's horizontal position of landmark `l`: its first coordinate, clipped. -/
theorem x_apply (x1 : Vec Ideal S1x68x2 .f32) (l : Fin 68) :
    k0_pay4 x1 (ix2 l (0 : Fin 1)) = clip (x1 (ix3 (0 : Fin 1) l (0 : Fin 2))) := by
  have e : extractStridedSlice S68x1 ![0, 0] (k0_pay3 x1) slices_S68x2_o0_0_S68x1 (ix2 l (0 : Fin 1))
      = x1 (ix3 (0 : Fin 1) l (0 : Fin 2)) :=
    (slice2_axis1_apply 0 (k0_pay3 x1) slices_S68x2_o0_0_S68x1 l (0 : Fin 1) (0 : Fin 2) rfl).trans
      (shapeCast_1ab_ab_apply x1 _ l (0 : Fin 2))
  unfold k0_pay4 clip pixel
  simp only [minimumf_apply, maximumf_apply, mulf_apply, addf_apply, subf_apply, divf_apply, broadcast_apply,
    Scalar.ofBits, Ideal.ofBits_def, ofBits_zero, ofBits_two, ofBits_half, ofBits_thirtyOne, Ideal.ofBits_one_f32, e]

/-- The kernel's vertical position of landmark `l`: its second coordinate, clipped. -/
theorem y_apply (x1 : Vec Ideal S1x68x2 .f32) (l : Fin 68) :
    minimumf (k0_pay6 (F := Ideal)) (k0_pay5 x1) (ix2 l (0 : Fin 1)) = clip (x1 (ix3 (0 : Fin 1) l (1 : Fin 2))) := by
  have e : extractStridedSlice S68x1 ![0, 1] (k0_pay3 x1) slices_S68x2_o0_1_S68x1 (ix2 l (0 : Fin 1))
      = x1 (ix3 (0 : Fin 1) l (1 : Fin 2)) :=
    (slice2_axis1_apply 1 (k0_pay3 x1) slices_S68x2_o0_1_S68x1 l (0 : Fin 1) (1 : Fin 2) rfl).trans
      (shapeCast_1ab_ab_apply x1 _ l (1 : Fin 2))
  unfold k0_pay5 k0_pay6 clip pixel
  simp only [minimumf_apply, maximumf_apply, mulf_apply, addf_apply, subf_apply, divf_apply, broadcast_apply,
    Scalar.ofBits, Ideal.ofBits_def, ofBits_zero, ofBits_two, ofBits_half, ofBits_thirtyOne, Ideal.ofBits_one_f32, e]

/-- Four columns side by side: column `k` of the row is the `k`-th of them. -/
theorem columns_apply (a b c d : FVec Ideal S68x1 .f32) (l : Fin 68) (k : Fin 4) :
    concatenate S68x4 1 [⟨S68x1, a⟩, ⟨S68x1, b⟩, ⟨S68x1, c⟩, ⟨S68x1, d⟩] concatenates_S68x1_S68x1_S68x1_S68x1_S68x4_d1 (ix2 l k)
      = (![a, b, c, d] k) (ix2 l (0 : Fin 1)) := by
  match k with
  | ⟨0, _⟩ => exact congrArg a (funext fun x => match x with | ⟨0, _⟩ => rfl | ⟨1, _⟩ => rfl)
  | ⟨1, _⟩ => exact congrArg b (funext fun x => match x with | ⟨0, _⟩ => rfl | ⟨1, _⟩ => rfl)
  | ⟨2, _⟩ => exact congrArg c (funext fun x => match x with | ⟨0, _⟩ => rfl | ⟨1, _⟩ => rfl)
  | ⟨3, _⟩ => exact congrArg d (funext fun x => match x with | ⟨0, _⟩ => rfl | ⟨1, _⟩ => rfl)

/-- The product of the weights with the corners is the blend of the four corners. -/
theorem product_apply (x0 : FVec Ideal S4x2048 .f32) (X Y0 O : FVec Ideal S68x1 .f32) (l : Fin 68) (ch : Fin 2048) (tx ty : EReal)
    (hx : X (ix2 l (0 : Fin 1)) = tx) (hy : minimumf O Y0 (ix2 l (0 : Fin 1)) = ty) :
    k0_pay1 x0 X Y0 O (ix3 (0 : Fin 1) l ch)
      = blend (1 - ty) ty (1 - tx) tx (x0 (ix2 (0 : Fin 4) ch)) (x0 (ix2 (1 : Fin 4) ch)) (x0 (ix2 (2 : Fin 4) ch))
          (x0 (ix2 (3 : Fin 4) ch)) := by
  unfold k0_pay1 blend
  refine (shapeCast_ab_1ab_apply _ _ (0 : Fin 1) l ch).trans ?_
  refine (Ideal.matmul_plain_apply none _ x0 _ l ch).trans ?_
  simp only [Fin.sum_univ_four, columns_apply]
  show Ideal.ofBits .f32 0x00000000#32 + _ = _
  simp only [Matrix.cons_val, mulf_apply, subf_apply, broadcast_apply, Scalar.ofBits, Ideal.ofBits_def, Ideal.ofBits_one_f32,
    ofBits_zero, zero_add, hx, hy]

/-- The block stored by one grid point, at landmark `l` and channel `ch`: the blend of the image's four corners. -/
theorem out_apply (x0 : Vec Ideal S1x4x2048 .f32) (x1 : Vec Ideal S1x68x2 .f32) (l : Fin 68) (ch : Fin 2048) :
    out0_2 x0 x1 (ix3 (0 : Fin 1) l ch)
      = blend (1 - clip (x1 (ix3 (0 : Fin 1) l (1 : Fin 2)))) (clip (x1 (ix3 (0 : Fin 1) l (1 : Fin 2))))
          (1 - clip (x1 (ix3 (0 : Fin 1) l (0 : Fin 2)))) (clip (x1 (ix3 (0 : Fin 1) l (0 : Fin 2))))
          (x0 (ix3 (0 : Fin 1) (0 : Fin 4) ch)) (x0 (ix3 (0 : Fin 1) (1 : Fin 4) ch))
          (x0 (ix3 (0 : Fin 1) (2 : Fin 4) ch)) (x0 (ix3 (0 : Fin 1) (3 : Fin 4) ch)) := by
  unfold out0_2
  rw [View.canon_unit_zero zeros, View.ld_unit_zero zeros, View.ld_unit_zero zeros,
    product_apply _ _ _ _ l ch _ _ (x_apply x1 l) (y_apply x1 l)]
  unfold k0_pay2
  simp only [shapeCast_1ab_ab_apply]

end Cert.Proof.Block

end
-- ==== Proof.Array.lean ====
/-
  What the kernel's result array holds after the run: at image `b`, landmark `l` and channel `ch`, the blend of the four
  corner pixels of image `b` by the clipped positions of landmark `l`.
-/
module

public import proofs.«01_k».proof.Proof.Block
public import proofs.«01_k».proof.Proof.Gen.KernelIdeal.Value

@[expose] public section

noncomputable section

namespace Cert.Proof.Array

open Idealize.ShloMosaic Idealize.ShloMosaic.TcCoe Idealize.ShloMosaic.ValueIdx Idealize.SL.Sem
open Cert.KernelIdeal Cert.KernelIdeal.Gen Cert.Proof.Coord Cert.Proof.Block
open Idealize.ShloMosaic.Pipeline (Dat)

variable (m : (ℓ : Loc nD τ sig) → Buf (Elt Ideal) ℓ) (ρ : Dev nD → PrngReg)

/-- The feature map as launched. -/
abbrev features (c : Dev nD) : S16x2048x32x32.Idx → EReal := m ((c : Thread nD τ).loc main_arg0)
/-- The landmarks as launched. -/
abbrev landmarks (c : Dev nD) : S16x68x2.Idx → EReal := m ((c : Thread nD τ).loc main_arg1)

/-- The blend of the corners (0, 0), (0, 1), (1, 0), (1, 1) of image `b` at channel `ch`, by the clipped positions of its
    landmark `l`. -/
def value (f : S16x2048x32x32.Idx → EReal) (p : S16x68x2.Idx → EReal) (b : Fin 16) (l : Fin 68) (ch : Fin 2048) : EReal :=
  blend (1 - clip (p (ix3 b l (1 : Fin 2)))) (clip (p (ix3 b l (1 : Fin 2))))
    (1 - clip (p (ix3 b l (0 : Fin 2)))) (clip (p (ix3 b l (0 : Fin 2))))
    (f (ix4 b ch (0 : Fin 32) (0 : Fin 32))) (f (ix4 b ch (0 : Fin 32) (1 : Fin 32)))
    (f (ix4 b ch (1 : Fin 32) (0 : Fin 32))) (f (ix4 b ch (1 : Fin 32) (1 : Fin 32)))

/-- The kernel's result array. -/
def result (c : Dev nD) : Buf (Elt Ideal) ((c : Thread nD τ).loc main_v3) :=
  fun i : S16x68x2048.Idx => value (features m c) (landmarks m c) (i 0) (i 1) (i 2)

/-! ## The corner array the kernel reads -/

/-- The 2×2 corner of every image, flattened, with the channels last. -/
theorem corners_eq (c : Dev nD) : V m c main_v2
    = transpose S16x4x2048 [0, 2, 1] (shapeCast S16x2048x4 (extractStridedSlice S16x2048x2x2 ![0, 0, 0, 0] (features m c)
        slices_S16x2048x32x32_S16x2048x2x2_0_0_0_0) shapeCasts_S16x2048x2x2_S16x2048x4) transposes_S16x2048x4_S16x4x2048_0_2_1 := rfl

/-- Corner `2·y + x` of image `b` at channel `ch` is the feature map there at row `y` and column `x`. -/
theorem corners_apply (c : Dev nD) (b : Fin 16) (k : Fin 4) (ch : Fin 2048) (y x : Fin 32) (hy : y.val < 2) (hx : x.val < 2)
    (hk : k.val = 2 * y.val + x.val) :
    (V m c main_v2 : S16x4x2048.Idx → EReal) (ix3 b k ch) = features m c (ix4 b ch y x) := by
  rw [corners_eq]
  refine (transpose_ix3_021_apply _ transposes_S16x2048x4_S16x4x2048_0_2_1 b k ch).trans ?_
  refine (shapeCast_apply _ shapeCasts_S16x2048x2x2_S16x2048x4 (ix3 b ch k)
    (ix4 b ch (⟨y.val, hy⟩ : Fin 2) (⟨x.val, hx⟩ : Fin 2)) ?_).trans ?_
  · rw [Shape.rowMajor_val_four, Shape.rowMajor_val_three]
    show ((b.val * 2048 + ch.val) * 2 + y.val) * 2 + x.val = (b.val * 2048 + ch.val) * 4 + k.val
    omega
  · refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm

/-! ## The blocks -/

/-- Grid point `t` of each window is on image `t`, whole on the other two axes. -/
theorem index0 : ∀ t : Fin grid0.N, win0_0.index t 0 = t.val ∧ win0_0.index t 1 = 0 ∧ win0_0.index t 2 = 0 := by decide +kernel
/-- The same of the landmarks' window. -/
theorem index1 : ∀ t : Fin grid0.N, win0_1.index t 0 = t.val ∧ win0_1.index t 1 = 0 ∧ win0_1.index t 2 = 0 := by decide +kernel
/-- The same of the result's window. -/
theorem index2 : ∀ t : Fin grid0.N, win0_2.index t 0 = t.val ∧ win0_2.index t 1 = 0 ∧ win0_2.index t 2 = 0 := by decide +kernel

/-- Grid point `t` as an image. -/
def image (t : Fin cfg0.N) : Fin 16 := ⟨t.val, by have h := t.isLt; have e : cfg0.N = 16 := N_0; omega⟩

/-- The corner block at grid point `t` is image `t` of the corner array. -/
theorem corners_block (c : Dev nD) (t : Fin cfg0.N) (k : Fin 4) (ch : Fin 2048) :
    (iblk m c 0 t : Vec Ideal S1x4x2048 .f32) (ix3 (0 : Fin 1) k ch)
      = (V m c main_v2 : S16x4x2048.Idx → EReal) (ix3 (image t) k ch) := by
  obtain ⟨h0, h1, h2⟩ := index0 t
  unfold iblk
  rw [View.read_apply]
  show (V m c main_v2 : S16x4x2048.Idx → EReal) _ = _
  refine congrArg (V m c main_v2 : S16x4x2048.Idx → EReal) (funext fun a => Fin.ext ?_)
  match a with
  | ⟨0, _⟩ => show win0_0.index t 0 * 1 + 1 * 0 = t.val; omega
  | ⟨1, _⟩ => show win0_0.index t 1 * 4 + 1 * k.val = k.val; omega
  | ⟨2, _⟩ => show win0_0.index t 2 * 2048 + 1 * ch.val = ch.val; omega

/-- The landmark block at grid point `t` is image `t` of the landmarks. -/
theorem landmarks_block (c : Dev nD) (t : Fin cfg0.N) (l : Fin 68) (a : Fin 2) :
    (iblk m c 1 t : Vec Ideal S1x68x2 .f32) (ix3 (0 : Fin 1) l a) = landmarks m c (ix3 (image t) l a) := by
  obtain ⟨h0, h1, h2⟩ := index1 t
  unfold iblk
  rw [View.read_apply]
  show (V m c main_arg1 : S16x68x2.Idx → EReal) _ = _
  rw [V_main_arg1]
  refine congrArg (landmarks m c) (funext fun d => Fin.ext ?_)
  match d with
  | ⟨0, _⟩ => show win0_1.index t 0 * 1 + 1 * 0 = t.val; omega
  | ⟨1, _⟩ => show win0_1.index t 1 * 68 + 1 * l.val = l.val; omega
  | ⟨2, _⟩ => show win0_1.index t 2 * 2 + 1 * a.val = a.val; omega

/-- What grid point `t` stores, at landmark `l` and channel `ch`. -/
theorem stored (c : Dev nD) (t : Fin cfg0.N) (l : Fin 68) (ch : Fin 2048) :
    out0_2 (iblk m c 0 t : Vec Ideal S1x4x2048 .f32) (iblk m c 1 t : Vec Ideal S1x68x2 .f32) (ix3 (0 : Fin 1) l ch)
      = value (features m c) (landmarks m c) (image t) l ch := by
  rw [out_apply]
  unfold value
  simp only [corners_block, landmarks_block]
  rw [corners_apply m c (image t) 0 ch 0 0 (by decide) (by decide) rfl,
    corners_apply m c (image t) 1 ch 0 1 (by decide) (by decide) rfl,
    corners_apply m c (image t) 2 ch 1 0 (by decide) (by decide) rfl,
    corners_apply m c (image t) 3 ch 1 1 (by decide) (by decide) rfl]

/-! ## The array -/

/-- The whole block grid point `t` stores. -/
theorem stored_block (c : Dev nD) (t : Fin cfg0.N) :
    out0_2 (iblk m c 0 t : Vec Ideal S1x4x2048 .f32) (iblk m c 1 t : Vec Ideal S1x68x2 .f32)
      = fun j : S1x68x2048.Idx => result m c (ix3 (image t) (j 1) (j 2) : S16x68x2048.Idx) := by
  funext j
  obtain ⟨u, l, ch, rfl⟩ : ∃ (u : Fin 1) (l : Fin 68) (ch : Fin 2048), j = ix3 u l ch := ⟨j 0, j 1, j 2, eq_ix3 j⟩
  obtain rfl : u = 0 := Subsingleton.elim _ _
  exact stored m c t l ch

/-- What grid point `t` writes back is its block of `result`. -/
theorem written (c : Dev nD) (t : Fin cfg0.N) (_ : (cfg0.win 2).flush t = true) :
    (dats m 0 c).flushed 2 t = ((cfg0.win 2).blk t).view.read (Elt Ideal) (result m c) := by
  obtain ⟨h0, h1, h2⟩ := index2 t
  rw [Cert.KernelIdeal.Value.flushed2, stored_block]
  generalize result m c = g
  funext (j : S1x68x2048.Idx)
  rw [View.read_apply]
  have hj0 : (j 0).val = 0 := Nat.lt_one_iff.1 (j 0).isLt
  show (g : S16x68x2048.Idx → EReal) (ix3 (image t) (j 1) (j 2)) = (g : S16x68x2048.Idx → EReal) _
  refine congrArg (g : S16x68x2048.Idx → EReal) (funext fun a => Fin.ext ?_)
  match a with
  | ⟨0, _⟩ => show t.val = win0_2.index t 0 * 1 + 1 * (j 0).val; omega
  | ⟨1, _⟩ => show (j 1).val = win0_2.index t 1 * 68 + 1 * (j 1).val; omega
  | ⟨2, _⟩ => show (j 2).val = win0_2.index t 2 * 2048 + 1 * (j 2).val; omega

/-- The blocks of the sixteen images cover the result array, which so ends as `result`. -/
theorem final (c : Dev nD) : (dats m 0 c).arrAt 2 cfg0.N = result m c :=
  (dats m 0 c).arrAt_eq_of_cover 2 (result m c) (written m c) fun (i : S16x68x2048.Idx) => by
    have e : cfg0.N = 16 := N_0
    have b0 : (i 0 : Nat) < 16 := (i 0).isLt
    have b1 : (i 1 : Nat) < 68 := (i 1).isLt
    have b2 : (i 2 : Nat) < 2048 := (i 2).isLt
    obtain ⟨t, ht⟩ : ∃ t : Fin cfg0.N, t.val = (i 0 : Nat) := ⟨⟨(i 0 : Nat), by omega⟩, rfl⟩
    obtain ⟨h0, h1, h2⟩ := index2 t
    refine ⟨t, flush0_2 t, ?_⟩
    show i ∈ ((View.whole main_v3).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [h0]; omega
    | ⟨1, _⟩ =>
      show win0_2.index t 1 * 68 ≤ (i 1 : Nat) ∧ (i 1 : Nat) < win0_2.index t 1 * 68 + 68
      rw [h1]; omega
    | ⟨2, _⟩ =>
      show win0_2.index t 2 * 2048 ≤ (i 2 : Nat) ∧ (i 2 : Nat) < win0_2.index t 2 * 2048 + 2048
      rw [h2]; omega

/-- The kernel's run: the result array ends as `result`, and the arguments end unchanged. -/
theorem run : θ_run (defs (F := Ideal)) (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.KernelIdeal.Value.run_blocks m ρ)

end Cert.Proof.Array

end
-- ==== Proof.Ref.lean ====
/-
  What the reference computes, read at image `b`, landmark `l` and channel `ch`: the blend of the four pixels around the
  landmark's clipped position, whose rows and columns are gathered from the feature map by index words.
-/
module

public import proofs.«01_k».proof.Proof.Coord
public import proofs.«01_k».proof.Proof.Gen.ReferenceIdeal.Run
public import Idealize.ShloMosaic.Lib.Pipeline.Value
public import Idealize.ShloMosaic.Lib.ValueIdx
public import Idealize.ShloMosaic.Lib.ValueLayout

@[expose] public section

noncomputable section

namespace Cert.Proof.Ref

open Idealize.ShloMosaic Idealize.ShloMosaic.TcCoe Idealize.ShloMosaic.ValueIdx Idealize.SL.Sem
open Cert.ReferenceIdeal Cert.ReferenceIdeal.Gen Cert.ReferenceIdeal.Value Cert.Proof.Coord

variable (V0 : Valuation τ sig (Elt Ideal))

/-- The feature map. -/
abbrev features : S16x2048x32x32.Idx → EReal := V0 (Proc.devRef .tc main_arg0)
/-- The landmarks. -/
abbrev landmarks : S16x68x2.Idx → EReal := V0 (Proc.devRef .tc main_arg1)

/-- The reference's clipped pixel position of a coordinate. -/
def clip (x : EReal) : EReal := min ((31 : ℝ) : EReal) (max 0 (pixel x))

/-- The word 31 converted to a float is thirty-one. -/
theorem sitofp_31 : FloatOps.sitofp (F := Ideal) .f32 (31#32) = ((31 : ℝ) : EReal) := by
  show (((31#32 : BitVec 32).toInt : ℝ) : EReal) = _
  rw [show (31#32 : BitVec 32).toInt = 31 by decide]; norm_num

/-- The word 0 converted to a float is zero. -/
theorem sitofp_0 : FloatOps.sitofp (F := Ideal) .f32 (0#32) = 0 := by
  show (((0#32 : BitVec 32).toInt : ℝ) : EReal) = _
  rw [show (0#32 : BitVec 32).toInt = 0 by decide]; norm_num

/-- A scalar spread over images and landmarks is the scalar at every entry. -/
theorem splat_apply {α : Type} (v : S_.Idx → α) (j : S16x68.Idx) : broadcastInDim S16x68 ![] bcast_S_S16x68 v j = v ix0 :=
  broadcastInDim_scalar_apply _ v j

/-- A quotient at an entry is the quotient of the entries. -/
theorem quotient_apply (a b : FVec Ideal S16x68 .f32) (j : S16x68.Idx) : Host.divf a b j = Ideal.div (a j) (b j) := rfl

/-! ## Positions, weights and index words -/

/-- One coordinate of the landmarks as an image-by-landmark array. -/
theorem coordinate_apply (p : S16x68x2.Idx → EReal) (o : Nat) (h : S16x68x2.Slices ![0, 0, o] S16x68x1) (b : Fin 16) (l : Fin 68)
    (a : Fin 2) (ha : a.val = o) :
    shapeCast S16x68 (extractStridedSlice S16x68x1 ![0, 0, o] p h) shapeCasts_S16x68x1_S16x68 (ix2 b l) = p (ix3 b l a) := by
  refine (shapeCast_apply _ shapeCasts_S16x68x1_S16x68 (ix2 b l) (ix3 b l (0 : Fin 1)) ?_).trans ?_
  · rw [Shape.rowMajor_val_three, Shape.rowMajor_val_two]
    show (b.val * 68 + l.val) * 1 + 0 = b.val * 68 + l.val
    omega
  · refine extractStridedSlice_apply _ _ _ _ _ fun d => ?_
    match d with
    | ⟨0, _⟩ => exact (Nat.zero_add _).symm
    | ⟨1, _⟩ => exact (Nat.zero_add _).symm
    | ⟨2, _⟩ => exact ha.trans (Nat.add_zero o).symm

/-- The reference's clipped positions of an array of coordinates. -/
abbrev positions (q : FVec Ideal S16x68 .f32) : FVec Ideal S16x68 .f32 :=
  minimumf (broadcastInDim S16x68 ![] bcast_S_S16x68 (sitofp .f32 (constantI S_ 32 31#32)))
    (maximumf (broadcastInDim S16x68 ![] bcast_S_S16x68 (id (constant S_ .f32 0x00000000#32)))
      (mulf (mulf (addf (subf (Host.divf (mulf (broadcastInDim S16x68 ![] bcast_S_S16x68 (constant S_ .f32 0x40000000#32)) q)
        (broadcastInDim S16x68 ![] bcast_S_S16x68 (constant S_ .f32 0x41F80000#32)))
        (broadcastInDim S16x68 ![] bcast_S_S16x68 (constant S_ .f32 0x3F800000#32)))
        (broadcastInDim S16x68 ![] bcast_S_S16x68 (constant S_ .f32 0x3F800000#32)))
        (broadcastInDim S16x68 ![] bcast_S_S16x68 (constant S_ .f32 0x3F000000#32)))
        (broadcastInDim S16x68 ![] bcast_S_S16x68 (constant S_ .f32 0x41F80000#32))))

/-- Each is the clipped position of its coordinate. -/
theorem positions_apply (q : FVec Ideal S16x68 .f32) (j : S16x68.Idx) : positions q j = clip (q j) := by
  show min (FloatOps.sitofp (F := Ideal) .f32 (31#32)) (max (Ideal.ofBits .f32 0x00000000#32)
    ((Ideal.div (Ideal.ofBits .f32 0x40000000#32 * q j) (Ideal.ofBits .f32 0x41F80000#32) - Ideal.ofBits .f32 0x3F800000#32
      + Ideal.ofBits .f32 0x3F800000#32) * Ideal.ofBits .f32 0x3F000000#32 * Ideal.ofBits .f32 0x41F80000#32)) = _
  rw [sitofp_31, ofBits_zero, ofBits_two, ofBits_half, ofBits_thirtyOne, Ideal.ofBits_one_f32]
  rfl

/-- The horizontal position of landmark `l` of image `b`. -/
theorem x_apply (b : Fin 16) (l : Fin 68) : res_main_v28 V0 (ix2 b l) = clip (landmarks V0 (ix3 b l (0 : Fin 2))) :=
  (positions_apply _ (ix2 b l)).trans
    (congrArg clip (coordinate_apply (landmarks V0) 0 slices_S16x68x2_S16x68x1_0_0_0 b l (0 : Fin 2) rfl))

/-- The vertical position of landmark `l` of image `b`. -/
theorem y_apply (b : Fin 16) (l : Fin 68) : res_main_v29 V0 (ix2 b l) = clip (landmarks V0 (ix3 b l (1 : Fin 2))) :=
  (positions_apply _ (ix2 b l)).trans
    (congrArg clip (coordinate_apply (landmarks V0) 1 slices_S16x68x2_S16x68x1_0_0_1 b l (1 : Fin 2) rfl))

/-- The floor of a position. -/
abbrev floor (t : EReal) : EReal := Ideal.liftRound Int.floor t

/-- An index word with a negative one wrapped round by 32. -/
def wrap (i : BitVec 32) : BitVec 32 := Scalar.select (IntOp.cmpi .slt i 0#32) (IntOp.addi i 32#32) i

/-- A whole number clipped to `[0, 31]` and converted, at an entry, then wrapped, is its `index`. -/
theorem word_apply (v : FVec Ideal S16x68 .f32) (j : S16x68.Idx) :
    wrap (fptosi 32 (minimumf (broadcastInDim S16x68 ![] bcast_S_S16x68 (sitofp .f32 (constantI S_ 32 31#32)))
      (maximumf (broadcastInDim S16x68 ![] bcast_S_S16x68 (sitofp .f32 (constantI S_ 32 0#32))) v)) j) = index (v j) := by
  show wrap (Ideal.fptosi 32 (min (FloatOps.sitofp (F := Ideal) .f32 (31#32)) (max (FloatOps.sitofp (F := Ideal) .f32 (0#32)) (v j)))) = _
  rw [sitofp_31, sitofp_0]
  rfl

/-- The weights and wrapped index words of both axes at landmark `l` of image `b`, from its two positions. -/
theorem axes_apply (b : Fin 16) (l : Fin 68) (tx ty : EReal) (hx : res_main_v28 V0 (ix2 b l) = tx) (hy : res_main_v29 V0 (ix2 b l) = ty) :
    res_main_v36 V0 (ix2 b l) = tx - floor tx ∧ res_main_v38 V0 (ix2 b l) = 1 - (tx - floor tx)
    ∧ res_main_v39 V0 (ix2 b l) = ty - floor ty ∧ res_main_v41 V0 (ix2 b l) = 1 - (ty - floor ty)
    ∧ wrap (res_main_v43 V0 (ix2 b l)) = index (floor tx) ∧ wrap (res_main_v45 V0 (ix2 b l)) = index (floor tx + 1)
    ∧ wrap (res_main_v47 V0 (ix2 b l)) = index (floor ty) ∧ wrap (res_main_v49 V0 (ix2 b l)) = index (floor ty + 1) := by
  have e30 : res_main_v30 V0 (ix2 b l) = floor tx := by rw [← hx]; rfl
  have e31 : res_main_v31 V0 (ix2 b l) = floor ty := by rw [← hy]; rfl
  have e36 : res_main_v36 V0 (ix2 b l) = tx - floor tx := by rw [← hx]; rfl
  have e39 : res_main_v39 V0 (ix2 b l) = ty - floor ty := by rw [← hy]; rfl
  refine ⟨e36, ?_, e39, ?_, ?_, ?_, ?_, ?_⟩
  · rw [← e36]; unfold res_main_v38
    rw [subf_apply, splat_apply, constant_apply, Ideal.ofBits_one_f32]
  · rw [← e39]; unfold res_main_v41
    rw [subf_apply, splat_apply, constant_apply, Ideal.ofBits_one_f32]
  · rw [← e30]; exact word_apply _ _
  · rw [← e30]; unfold res_main_v45
    rw [word_apply, addf_apply, splat_apply, constant_apply, Ideal.ofBits_one_f32]
  · rw [← e31]; exact word_apply _ _
  · rw [← e31]; unfold res_main_v49
    rw [word_apply, addf_apply, splat_apply, constant_apply, Ideal.ofBits_one_f32]

/-! ## The gathered pixels -/

/-- The product of two weights, spread over the channels. -/
abbrev weight (a b : FVec Ideal S16x68 .f32) : FVec Ideal S16x68x2048 .f32 :=
  broadcastInDim S16x68x2048 ![0, 1, 2] bcast_S16x68x1_S16x68x2048_0_1_2 (broadcastInDim S16x68x1 ![0, 1] bcast_S16x68_S16x68x1_0_1 (mulf a b))

/-- The spread product is the same at every channel. -/
theorem weight_apply (a b : FVec Ideal S16x68 .f32) (i : Fin 16) (l : Fin 68) (ch : Fin 2048) :
    weight a b (ix3 i l ch) = a (ix2 i l) * b (ix2 i l) := by
  refine (broadcastInDim_apply _ _ _ (ix3 i l ch) (ix3 i l (0 : Fin 1)) fun d => ?_).trans
    ((broadcastInDim_apply _ _ _ (ix3 i l (0 : Fin 1)) (ix2 i l) fun d => ?_).trans rfl)
  · match d with
    | ⟨0, _⟩ => rfl
    | ⟨1, _⟩ => rfl
    | ⟨2, _⟩ => rfl
  · match d with
    | ⟨0, _⟩ => rfl
    | ⟨1, _⟩ => rfl

/-- The image numbers, as the gather's first index words. -/
abbrev images : IVec S16x68x1 32 :=
  broadcastInDim S16x68x1 ![0, 1] bcast_S16x68_S16x68x1_0_1 (broadcastInDim S16x68 ![0, 1] bcast_S16x1_S16x68_0_1
    (select (cmpi .slt (res_main_v52 V0) (broadcastInDim S16x1 ![] bcast_S_S16x1 (constantI S_ 32 0#32)))
      (addi (res_main_v52 V0) (broadcastInDim S16x1 ![] bcast_S_S16x1 (constantI S_ 32 16#32))) (res_main_v52 V0)))

/-- Rows or columns, wrapped, as the gather's other index words. -/
abbrev words (i : IVec S16x68 32) : IVec S16x68x1 32 :=
  broadcastInDim S16x68x1 ![0, 1] bcast_S16x68_S16x68x1_0_1
    (select (cmpi .slt i (broadcastInDim S16x68 ![] bcast_S_S16x68 (constantI S_ 32 0#32)))
      (addi i (broadcastInDim S16x68 ![] bcast_S_S16x68 (constantI S_ 32 32#32))) i)

/-- The gather's index vectors: image, row, column. -/
abbrev starts (iy ix : IVec S16x68 32) : IVec S16x68x3 32 :=
  concatenate S16x68x3 2 [⟨S16x68x1, images V0⟩, ⟨S16x68x1, words iy⟩, ⟨S16x68x1, words ix⟩]
    concatenates_S16x68x1_S16x68x1_S16x68x1_S16x68x3_d2

/-- The pixels gathered at rows `iy` and columns `ix`. -/
abbrev pixels (iy ix : IVec S16x68 32) : FVec Ideal S16x68x2048 .f32 :=
  Host.gather gather_S16x32x32x2048_S16x68x3_S16x68x2048_2_012_n_n_012_2_1112048 (res_main_v50 V0) (starts V0 iy ix)

/-- The image's word is its number. -/
theorem images_apply (b : Fin 16) (l : Fin 68) : images V0 (ix3 b l (0 : Fin 1)) = BitVec.ofNat 32 b.val := by
  refine (broadcastInDim_apply _ _ _ (ix3 b l (0 : Fin 1)) (ix2 b l) fun d => ?_).trans
    ((broadcastInDim_apply _ _ _ (ix2 b l) (ix2 b (0 : Fin 1)) fun d => ?_).trans ?_)
  · match d with
    | ⟨0, _⟩ => rfl
    | ⟨1, _⟩ => rfl
  · match d with
    | ⟨0, _⟩ => rfl
    | ⟨1, _⟩ => rfl
  · have e : res_main_v52 V0 (ix2 b (0 : Fin 1)) = BitVec.ofNat 32 b.val := by
      refine (broadcastInDim_apply _ _ _ (ix2 b (0 : Fin 1)) (ix1 b) fun d => ?_).trans rfl
      match d with
      | ⟨0, _⟩ => rfl
    show Scalar.select (IntOp.cmpi .slt (res_main_v52 V0 (ix2 b (0 : Fin 1))) 0#32)
      (IntOp.addi (res_main_v52 V0 (ix2 b (0 : Fin 1))) 16#32) (res_main_v52 V0 (ix2 b (0 : Fin 1))) = _
    rw [e]
    clear e
    revert b; decide

/-- A row's or column's word is its index, wrapped. -/
theorem words_apply (i : IVec S16x68 32) (b : Fin 16) (l : Fin 68) : words i (ix3 b l (0 : Fin 1)) = wrap (i (ix2 b l)) := by
  refine (broadcastInDim_apply _ _ _ (ix3 b l (0 : Fin 1)) (ix2 b l) fun d => ?_).trans rfl
  match d with
  | ⟨0, _⟩ => rfl
  | ⟨1, _⟩ => rfl

/-- The three components of an index vector, for any three arrays of words. -/
theorem components_apply (a0 a1 a2 : IVec S16x68x1 32) (b : Fin 16) (l : Fin 68) (k : Fin 3) :
    concatenate S16x68x3 2 [⟨S16x68x1, a0⟩, ⟨S16x68x1, a1⟩, ⟨S16x68x1, a2⟩]
      concatenates_S16x68x1_S16x68x1_S16x68x1_S16x68x3_d2 (ix3 b l k) = (![a0, a1, a2] k) (ix3 b l (0 : Fin 1)) := by
  match k with
  | ⟨0, _⟩ => exact congrArg a0 (funext fun d => match d with | ⟨0, _⟩ => rfl | ⟨1, _⟩ => rfl | ⟨2, _⟩ => rfl)
  | ⟨1, _⟩ => exact congrArg a1 (funext fun d => match d with | ⟨0, _⟩ => rfl | ⟨1, _⟩ => rfl | ⟨2, _⟩ => rfl)
  | ⟨2, _⟩ => exact congrArg a2 (funext fun d => match d with | ⟨0, _⟩ => rfl | ⟨1, _⟩ => rfl | ⟨2, _⟩ => rfl)

/-- The feature map of image `b` at channel `ch`, at the row and column that two words name (clamped to the map). -/
def pick (f : S16x2048x32x32.Idx → EReal) (b : Fin 16) (ch : Fin 2048) (y x : BitVec 32) : EReal :=
  f (ix4 b ch (⟨min y.toInt.toNat 31, by omega⟩ : Fin 32) (⟨min x.toInt.toNat 31, by omega⟩ : Fin 32))

/-- The gather's dimension numbers: an index vector of image, row and column, and whole lines of channels. -/
abbrev dims : GatherDims S16x32x32x2048 S16x68x3 S16x68x2048 :=
  gather_S16x32x32x2048_S16x68x3_S16x68x2048_2_012_n_n_012_2_1112048

/-- The gather at an entry reads the operand at the index vector's three words, each clamped to its axis. -/
theorem gather_apply (v : S16x32x32x2048.Idx → EReal) (idx : IVec S16x68x3 32) (b : Fin 16) (l : Fin 68) (ch : Fin 2048)
    (i0 i1 i2 : BitVec 32) (h0 : idx (ix3 b l (0 : Fin 3)) = i0) (h1 : idx (ix3 b l (1 : Fin 3)) = i1)
    (h2 : idx (ix3 b l (2 : Fin 3)) = i2) :
    Host.gather dims v idx (ix3 b l ch)
      = v (ix4 (⟨min i0.toInt.toNat 15, by omega⟩ : Fin 16)
          (⟨min i1.toInt.toNat 31, by omega⟩ : Fin 32)
          (⟨min i2.toInt.toNat 31, by omega⟩ : Fin 32) ch) := by
  have hs : ∀ (k : Fin 3) (hk : k.val < dims.startIndexMap.length), dims.siIdx (ix3 b l ch) ⟨k.val, hk⟩ = ix3 b l k := by
    intro k hk
    funext a
    refine Fin.ext ?_
    match a with
    | ⟨0, _⟩ => rfl
    | ⟨1, _⟩ => rfl
    | ⟨2, _⟩ => rfl
  have inMap : ∀ a : Fin 4, a ∈ ([0, 1, 2] : List (Fin 4)) → a ∈ dims.startIndexMap := fun _ h => h
  have outside : (3 : Fin 4) ∉ ([0, 1, 2] : List (Fin 4)) := by decide
  subst h0 h1 h2
  unfold Host.gather
  refine congrArg v (funext fun a => Fin.ext ?_)
  show dims.start (ix3 b l ch) idx a + dims.batchCoord (ix3 b l ch) a + dims.offCoord (ix3 b l ch) a = _
  rw [GatherDims.batchCoord_eq_zero _ _ _ (show a ∉ ([] : List (Fin 4)) from List.not_mem_nil)]
  have ha : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases ha with rfl | rfl | rfl | rfl
  · rw [GatherDims.offCoord_eq_zero _ _ _ (fun h => ((GatherDims.mem_sKept _ _).mp h).1 (show (0 : Fin 4) ∈ [0, 1, 2] by decide))]
    unfold GatherDims.start
    rw [dif_pos (inMap (0 : Fin 4) (by decide))]
    exact congrArg (fun j => min (idx j).toInt.toNat 15) (hs 0 (show 0 < 3 by decide))
  · rw [GatherDims.offCoord_eq_zero _ _ _ (fun h => ((GatherDims.mem_sKept _ _).mp h).1 (show (1 : Fin 4) ∈ [0, 1, 2] by decide))]
    unfold GatherDims.start
    rw [dif_pos (inMap (1 : Fin 4) (by decide))]
    exact congrArg (fun j => min (idx j).toInt.toNat 31) (hs 1 (show 1 < 3 by decide))
  · rw [GatherDims.offCoord_eq_zero _ _ _ (fun h => ((GatherDims.mem_sKept _ _).mp h).1 (show (2 : Fin 4) ∈ [0, 1, 2] by decide))]
    unfold GatherDims.start
    rw [dif_pos (inMap (2 : Fin 4) (by decide))]
    exact congrArg (fun j => min (idx j).toInt.toNat 31) (hs 2 (show 2 < 3 by decide))
  · have hk : (3 : Fin 4) ∈ dims.sKept := (GatherDims.mem_sKept _ _).mpr ⟨outside, List.not_mem_nil⟩
    unfold GatherDims.start
    rw [dif_neg (show (3 : Fin 4) ∉ dims.startIndexMap from outside)]
    unfold GatherDims.offCoord
    rw [dif_pos hk]
    exact (Nat.zero_add _).trans rfl

/-- The pixel gathered for landmark `l` of image `b` at channel `ch` is the image's pixel at the wrapped row and column. -/
theorem pixels_apply (iy ix : IVec S16x68 32) (b : Fin 16) (l : Fin 68) (ch : Fin 2048) :
    pixels V0 iy ix (ix3 b l ch) = pick (features V0) b ch (wrap (iy (ix2 b l))) (wrap (ix (ix2 b l))) := by
  have s0 : starts V0 iy ix (ix3 b l (0 : Fin 3)) = BitVec.ofNat 32 b.val :=
    (components_apply _ _ _ b l 0).trans (images_apply V0 b l)
  have s1 : starts V0 iy ix (ix3 b l (1 : Fin 3)) = wrap (iy (ix2 b l)) :=
    (components_apply _ _ _ b l 1).trans (words_apply iy b l)
  have s2 : starts V0 iy ix (ix3 b l (2 : Fin 3)) = wrap (ix (ix2 b l)) :=
    (components_apply _ _ _ b l 2).trans (words_apply ix b l)
  refine (gather_apply (res_main_v50 V0) (starts V0 iy ix) b l ch _ _ _ s0 s1 s2).trans ?_
  have hb : min (BitVec.ofNat 32 b.val).toInt.toNat 15 = b.val := by
    clear s0 s1 s2
    revert b; decide
  refine transpose_apply _ _ _ _ _ fun d => ?_
  match d with
  | ⟨0, _⟩ => exact hb.symm
  | ⟨1, _⟩ => rfl
  | ⟨2, _⟩ => rfl
  | ⟨3, _⟩ => rfl

/-! ## The result -/

/-- The reference's result array. -/
def result : FVec Ideal S16x68x2048 .f32 :=
  addf (res_main_v150 V0) (mulf (weight (res_main_v39 V0) (res_main_v36 V0)) (pixels V0 (res_main_v49 V0) (res_main_v45 V0)))

/-- The first three of its four terms. -/
theorem terms : res_main_v150 V0
    = addf (addf (mulf (weight (res_main_v41 V0) (res_main_v38 V0)) (pixels V0 (res_main_v47 V0) (res_main_v43 V0)))
        (mulf (weight (res_main_v41 V0) (res_main_v36 V0)) (pixels V0 (res_main_v47 V0) (res_main_v45 V0))))
      (mulf (weight (res_main_v39 V0) (res_main_v38 V0)) (pixels V0 (res_main_v49 V0) (res_main_v43 V0))) := rfl

/-- The reference's result at an entry: the blend of the four pixels around the landmark's position `(tx, ty)`. -/
theorem result_apply (b : Fin 16) (l : Fin 68) (ch : Fin 2048) (tx ty : EReal)
    (hx : clip (landmarks V0 (ix3 b l (0 : Fin 2))) = tx) (hy : clip (landmarks V0 (ix3 b l (1 : Fin 2))) = ty) :
    result V0 (ix3 b l ch)
      = blend (1 - (ty - floor ty)) (ty - floor ty) (1 - (tx - floor tx)) (tx - floor tx)
          (pick (features V0) b ch (index (floor ty)) (index (floor tx)))
          (pick (features V0) b ch (index (floor ty)) (index (floor tx + 1)))
          (pick (features V0) b ch (index (floor ty + 1)) (index (floor tx)))
          (pick (features V0) b ch (index (floor ty + 1)) (index (floor tx + 1))) := by
  obtain ⟨e36, e38, e39, e41, e43, e45, e47, e49⟩ :=
    axes_apply V0 b l tx ty ((x_apply V0 b l).trans hx) ((y_apply V0 b l).trans hy)
  unfold result blend
  rw [terms]
  simp only [addf_apply, mulf_apply, weight_apply, pixels_apply, e36, e38, e39, e41, e43, e45, e47, e49]

/-- The reference's run: the result array ends as `result` of the launch contents, and the arguments end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v155) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Proof.Ref

end
-- ==== Proof.Equation.lean ====
/-
  The equation: where no landmark coordinate exceeds one, the reference's result array is the kernel's.
-/
module

public import proofs.«01_k».proof.Proof.Array
public import proofs.«01_k».proof.Proof.Ref
public import proofs.«01_k».proof.Proof.Gen.Pre_landmarks_at_most_one
public import Idealize.ShloMosaic.Lib.IdealHost

@[expose] public section

noncomputable section

namespace Cert.Proof.Equation

open Idealize.ShloMosaic Idealize.ShloMosaic.ValueIdx Cert.Proof.Coord

/-- The precondition says that every landmark coordinate is at most one. -/
theorem at_most_one (f : FVec Ideal Cert.Pre_landmarks_at_most_one.S16x2048x32x32 .f32)
    (p : FVec Ideal Cert.Pre_landmarks_at_most_one.S16x68x2 .f32)
    (h : Cert.Pre_landmarks_at_most_one.fn (F := Ideal) f p = fun _ => 1#1) (i : Cert.Pre_landmarks_at_most_one.S16x68x2.Idx) :
    (p i : EReal) ≤ 1 := by
  have e : BitVec.ofBool (decide ((p i : EReal) ≤ Ideal.ofBits .f32 0x3F800000#32)) = 1#1 := congrFun h i
  rw [Ideal.ofBits_one_f32] at e
  by_contra hn
  rw [decide_eq_false hn] at e
  exact absurd e (by decide)

/-- At an entry, the reference's result is the kernel's value if the landmark's two coordinates are at most one. -/
theorem entry (V0 : Valuation Cert.ReferenceIdeal.τ Cert.ReferenceIdeal.sig (Elt Ideal)) (b : Fin 16) (l : Fin 68) (ch : Fin 2048)
    (h0 : Ref.landmarks V0 (ix3 b l (0 : Fin 2)) ≤ 1) (h1 : Ref.landmarks V0 (ix3 b l (1 : Fin 2)) ≤ 1) :
    Ref.result V0 (ix3 b l ch) = Array.value (Ref.features V0) (Ref.landmarks V0) b l ch := by
  obtain ⟨tx, x0, x1, kx, rx⟩ := position _ h0
  obtain ⟨ty, y0, y1, ky, ry⟩ := position _ h1
  rw [Ref.result_apply V0 b l ch tx ty rx ry, blend_eq (Ref.pick (Ref.features V0) b ch) ty tx _ _ _ _ _ _ _ _
    (axis ty y0 y1) (axis tx x0 x1)]
  unfold Array.value Block.clip
  rw [kx, ky]
  rfl

/-- The whole result arrays are equal. -/
theorem arrays (V0 : Valuation Cert.ReferenceIdeal.τ Cert.ReferenceIdeal.sig (Elt Ideal))
    (h : ∀ i : Cert.ReferenceIdeal.S16x68x2.Idx, Ref.landmarks V0 i ≤ 1) :
    Ref.result V0 = fun i : Cert.ReferenceIdeal.S16x68x2048.Idx =>
      Array.value (Ref.features V0) (Ref.landmarks V0) (i 0) (i 1) (i 2) := by
  funext i
  obtain ⟨b, l, ch, rfl⟩ : ∃ (b : Fin 16) (l : Fin 68) (ch : Fin 2048), i = ix3 b l ch := ⟨i 0, i 1, i 2, eq_ix3 i⟩
  exact entry V0 b l ch (h _) (h _)

end Cert.Proof.Equation

end
-- ==== Proof.lean ====
/-
  The assembly: the frames of the three programs, and the equality of the kernel's and the reference's results where no
  landmark coordinate exceeds one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_landmarks_at_most_one
public import proofs.«01_k».proof.Proof.Gen.KernelIdeal.Value
public import proofs.«01_k».proof.Proof.Gen.ReferenceIdeal.Run
public import proofs.«01_k».proof.Proof.Array
public import proofs.«01_k».proof.Proof.Ref
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, leaves its arguments unchanged and ends with every semaphore at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So it does under the precondition. -/
theorem frame_ideal_pre : Cert.quiescent_KernelIdeal_pre_landmarks_at_most_one := fun m ρ _ => Cert.KernelIdeal.Gen.frame m ρ

/-- So does the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Ref.run m ρ)

/-- So it does under the precondition. -/
theorem frame_reference_pre : Cert.quiescent_ReferenceIdeal_pre_landmarks_at_most_one := fun m ρ _ =>
  frame_reference m ρ trivial

/-- From equal arguments whose landmark coordinates are at most one, the kernel and the reference end with equal results. -/
theorem algebraic : Cert.algebraic_KernelIdeal_ReferenceIdeal_pre_landmarks_at_most_one := by
  intro m ρ m' ρ' hpre hargs
  refine ⟨Array.result m, Array.run m ρ, (θ_run Cert.ReferenceIdeal.defs _ _).mono (fun r h c => ⟨(h c).1.trans ?_, (h c).2⟩)
    (Ref.run m' ρ')⟩
  have ef : Ref.features (StableHlo.launchContents m' c) = Array.features m c := (hargs c).1
  have ep : Ref.landmarks (StableHlo.launchContents m' c) = Array.landmarks m c := (hargs c).2
  have hle : ∀ i, Array.landmarks m c i ≤ 1 := Equation.at_most_one _ _ (hpre c)
  rw [Equation.arrays _ (fun i => by rw [ep]; exact hle i), ef, ep]
  rfl

/-- All the claims. -/
theorem claim : Cert.Claim := ⟨Cert.Kernel.Gen.facts, Cert.KernelIdeal.Gen.facts, Cert.ReferenceIdeal.Gen.facts, Cert.Pre_landmarks_at_most_one.Gen.facts,
  frame_kernel, frame_ideal, frame_ideal_pre, frame_reference, frame_reference_pre, trivial, algebraic⟩

end Cert.Proof

end
